-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_variance_nonzero [hPre_variance_nonzero : Cert.Pre_variance_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_variance_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_variance_nonzero [hPre_variance_nonzero : Cert.Pre_variance_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_variance_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_variance_nonzero [hKernelIdeal : Cert.KernelIdeal.Facts] [hPre_variance_nonzero : Cert.Pre_variance_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_variance_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_variance_nonzero [hReferenceIdeal : Cert.ReferenceIdeal.Facts] [hPre_variance_nonzero : Cert.Pre_variance_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_variance_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_variance_nonzero [hKernelIdeal : Cert.KernelIdeal.Facts] [hReferenceIdeal : Cert.ReferenceIdeal.Facts] [hPre_variance_nonzero : Cert.Pre_variance_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_variance_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_variance_nonzero : Cert.Pre_variance_nonzero.Facts),
    quiescent_Kernel (hKernel := hKernel)
    ∧ quiescent_KernelIdeal (hKernelIdeal := hKernelIdeal)
    ∧ quiescent_KernelIdeal_pre_variance_nonzero (hKernelIdeal := hKernelIdeal) (hPre_variance_nonzero := hPre_variance_nonzero)
    ∧ quiescent_ReferenceIdeal (hReferenceIdeal := hReferenceIdeal)
    ∧ quiescent_ReferenceIdeal_pre_variance_nonzero (hReferenceIdeal := hReferenceIdeal) (hPre_variance_nonzero := hPre_variance_nonzero)
    ∧ preserves_Kernel_KernelIdeal
    ∧ algebraic_KernelIdeal_ReferenceIdeal_pre_variance_nonzero (hKernelIdeal := hKernelIdeal) (hReferenceIdeal := hReferenceIdeal) (hPre_variance_nonzero := hPre_variance_nonzero)
-- ==== Pre_variance_nonzero.lean ====
abbrev S8x14x14x2 : Shape := ⟨4, ![8, 14, 14, 2]⟩
abbrev S8x14x14 : Shape := ⟨3, ![8, 14, 14]⟩
abbrev S_ : Shape := ⟨0, ![]⟩

class Facts : Prop where
  bcast_S_S8x14x14 : S_.BroadcastsInDim S8x14x14 (![] : Fin 0 → Fin S8x14x14.rank)
  reducesTo_S8x14x14_S_d0_1_2 : S8x14x14.ReducesTo [0, 1, 2] S_
  h_S_ : 0 < S_.numel

variable [Facts]

def fn {F : FTy → Type} [FloatOps F] (main_arg0 : FVec F S8x14x14x2 .f32) (main_arg1 : FVec F S8x14x14 .f32) (main_arg2 : FVec F S8x14x14 .f32) : IVec S_ 1 :=
  let main_cst : FVec F S_ .f32 := constant S_ .f32 0x00000000#32
  let main_v0 : FVec F S8x14x14 .f32 := broadcastInDim S8x14x14 ![] bcast_S_S8x14x14 main_cst
  let main_v1 : IVec S8x14x14 1 := cmpf .une main_arg1 main_v0
  let main_c : IVec S_ 1 := constantI S_ 1 1#1
  let main_v2 : IVec S_ 1 := (fun x v => Host.reduce IntOp.andi x v reducesTo_S8x14x14_S_d0_1_2 h_S_) main_v1 main_c
  main_v2
-- ==== Kernel.lean ====
abbrev S8x14x14x2 : Shape := ⟨4, ![8, 14, 14, 2]⟩
abbrev S8x14x14 : Shape := ⟨3, ![8, 14, 14]⟩
abbrev S8x196x2 : Shape := ⟨3, ![8, 196, 2]⟩
abbrev S8x196x1 : Shape := ⟨3, ![8, 196, 1]⟩
abbrev S8x196 : Shape := ⟨2, ![8, 196]⟩
abbrev S_ : Shape := ⟨0, ![]⟩
abbrev S8x224 : Shape := ⟨2, ![8, 224]⟩
abbrev S8x1x224 : Shape := ⟨3, ![8, 1, 224]⟩
abbrev S8x224x1 : Shape := ⟨3, ![8, 224, 1]⟩
abbrev S8x224x224 : Shape := ⟨3, ![8, 224, 224]⟩
abbrev S1x1x224 : Shape := ⟨3, ![1, 1, 224]⟩
abbrev S1x224x1 : Shape := ⟨3, ![1, 224, 1]⟩
abbrev S1x224x224 : Shape := ⟨3, ![1, 224, 224]⟩
abbrev S1x224 : Shape := ⟨2, ![1, 224]⟩
abbrev S224x1 : Shape := ⟨2, ![224, 1]⟩
abbrev S224x224 : Shape := ⟨2, ![224, 224]⟩

abbrev nBuf : Space → Nat
  | .hbm => 28
  | .vmem => 12
  | .smem => 0
  | _ => 0

abbrev bufTy : (tb : Table) → Fin (tcTables nBuf tb) → BufTy
  | .hbm, ⟨0, _⟩ => ⟨S8x14x14x2, .f32⟩
  | .hbm, ⟨1, _⟩ => ⟨S8x14x14, .f32⟩
  | .hbm, ⟨2, _⟩ => ⟨S8x14x14, .f32⟩
  | .hbm, ⟨3, _⟩ => ⟨S8x196x2, .f32⟩
  | .hbm, ⟨4, _⟩ => ⟨S8x196x1, .f32⟩
  | .hbm, ⟨5, _⟩ => ⟨S8x196, .f32⟩
  | .hbm, ⟨6, _⟩ => ⟨S_, .i32⟩
  | .hbm, ⟨7, _⟩ => ⟨S_, .f32⟩
  | .hbm, ⟨8, _⟩ => ⟨S8x224, .f32⟩
  | .hbm, ⟨9, _⟩ => ⟨S8x196x1, .f32⟩
  | .hbm, ⟨10, _⟩ => ⟨S8x196, .f32⟩
  | .hbm, ⟨11, _⟩ => ⟨S_, .i32⟩
  | .hbm, ⟨12, _⟩ => ⟨S_, .f32⟩
  | .hbm, ⟨13, _⟩ => ⟨S8x224, .f32⟩
  | .hbm, ⟨14, _⟩ => ⟨S8x196, .f32⟩
  | .hbm, ⟨15, _⟩ => ⟨S_, .f32⟩
  | .hbm, ⟨16, _⟩ => ⟨S_, .f32⟩
  | .hbm, ⟨17, _⟩ => ⟨S8x224, .f32⟩
  | .hbm, ⟨18, _⟩ => ⟨S8x196, .f32⟩
  | .hbm, ⟨19, _⟩ => ⟨S_, .i32⟩
  | .hbm, ⟨20, _⟩ => ⟨S_, .f32⟩
  | .hbm, ⟨21, _⟩ => ⟨S8x224, .f32⟩
  | .hbm, ⟨22, _⟩ => ⟨S8x1x224, .f32⟩
  | .hbm, ⟨23, _⟩ => ⟨S8x1x224, .f32⟩
  | .hbm, ⟨24, _⟩ => ⟨S8x224x1, .f32⟩
  | .hbm, ⟨25, _⟩ => ⟨S8x224x1, .f32⟩
  | .hbm, ⟨26, _⟩ => ⟨S8x224x1, .f32⟩
  | .hbm, ⟨27, _⟩ => ⟨S8x224x224, .f32⟩
  | .local _ .vmem, ⟨0, _⟩ => ⟨S1x1x224, .f32⟩
  | .local _ .vmem, ⟨1, _⟩ => ⟨S1x1x224, .f32⟩
  | .local _ .vmem, ⟨2, _⟩ => ⟨S1x1x224, .f32⟩
  | .local _ .vmem, ⟨3, _⟩ => ⟨S1x1x224, .f32⟩
  | .local _ .vmem, ⟨4, _⟩ => ⟨S1x224x1, .f32⟩
  | .local _ .vmem, ⟨5, _⟩ => ⟨S1x224x1, .f32⟩
  | .local _ .vmem, ⟨6, _⟩ => ⟨S1x224x1, .f32⟩
  | .local _ .vmem, ⟨7, _⟩ => ⟨S1x224x1, .f32⟩
  | .local _ .vmem, ⟨8, _⟩ => ⟨S1x224x1, .f32⟩
  | .local _ .vmem, ⟨9, _⟩ => ⟨S1x224x1, .f32⟩
  | .local _ .vmem, ⟨10, _⟩ => ⟨S1x224x224, .f32⟩
  | .local _ .vmem, ⟨11, _⟩ => ⟨S1x224x224, .f32⟩
  | _, _ => ⟨S8x14x14x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call3_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x224x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x224x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x224x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x14x14x2 : Shape := ⟨4, ![8, 14, 14, 2]⟩
abbrev S8x14x14 : Shape := ⟨3, ![8, 14, 14]⟩
abbrev S224 : Shape := ⟨1, ![224]⟩
abbrev S224x224 : Shape := ⟨2, ![224, 224]⟩
abbrev S8x196x2 : Shape := ⟨3, ![8, 196, 2]⟩
abbrev S8x196 : Shape := ⟨2, ![8, 196]⟩
abbrev S_ : Shape := ⟨0, ![]⟩
abbrev S8x224x224 : Shape := ⟨3, ![8, 224, 224]⟩
abbrev S8x49x2 : Shape := ⟨3, ![8, 49, 2]⟩
abbrev S8x49 : Shape := ⟨2, ![8, 49]⟩
abbrev S1x1x224x224 : Shape := ⟨4, ![1, 1, 224, 224]⟩
abbrev S8x49x1 : Shape := ⟨3, ![8, 49, 1]⟩
abbrev S8x49x1x1 : Shape := ⟨4, ![8, 49, 1, 1]⟩
abbrev S8x49x224x224 : Shape := ⟨4, ![8, 49, 224, 224]⟩

abbrev nBuf : Space → Nat
  | .hbm => 155
  | .vmem => 0
  | .smem => 0
  | _ => 0

abbrev hbmTy0_0 (i : Nat) : BufTy := match i % 128 with
  | 0 => ⟨S8x14x14x2, .f32⟩
  | 1 => ⟨S8x14x14, .f32⟩
  | 2 => ⟨S8x14x14, .f32⟩
  | 3 => ⟨S224, .f32⟩
  | 4 => ⟨S224, .f32⟩
  | 5 => ⟨S224x224, .f32⟩
  | 6 => ⟨S224x224, .f32⟩
  | 7 => ⟨S8x196x2, .f32⟩
  | 8 => ⟨S8x196, .f32⟩
  | 9 => ⟨S8x196, .f32⟩
  | 10 => ⟨S_, .f32⟩
  | 11 => ⟨S8x196, .f32⟩
  | 12 => ⟨S8x196, .i1⟩
  | 13 => ⟨S_, .f32⟩
  | 14 => ⟨S_, .f32⟩
  | 15 => ⟨S8x196, .f32⟩
  | 16 => ⟨S8x196, .f32⟩
  | 17 => ⟨S_, .f32⟩
  | 18 => ⟨S8x224x224, .f32⟩
  | 19 => ⟨S8x49x2, .f32⟩
  | 20 => ⟨S8x49, .f32⟩
  | 21 => ⟨S8x49, .f32⟩
  | 22 => ⟨S1x1x224x224, .f32⟩
  | 23 => ⟨S8x49x1, .f32⟩
  | 24 => ⟨S8x49, .f32⟩
  | 25 => ⟨S8x49x1x1, .f32⟩
  | 26 => ⟨S8x49x224x224, .f32⟩
  | 27 => ⟨S8x49x224x224, .f32⟩
  | 28 => ⟨S8x49x224x224, .f32⟩
  | 29 => ⟨S1x1x224x224, .f32⟩
  | 30 => ⟨S8x49x1, .f32⟩
  | 31 => ⟨S8x49, .f32⟩
  | 32 => ⟨S8x49x1x1, .f32⟩
  | 33 => ⟨S8x49x224x224, .f32⟩
  | 34 => ⟨S8x49x224x224, .f32⟩
  | 35 => ⟨S8x49x224x224, .f32⟩
  | 36 => ⟨S8x49x224x224, .f32⟩
  | 37 => ⟨S8x49x224x224, .f32⟩
  | 38 => ⟨S8x49x224x224, .f32⟩
  | 39 => ⟨S8x49x224x224, .f32⟩
  | 40 => ⟨S8x49x1x1, .f32⟩
  | 41 => ⟨S_, .f32⟩
  | 42 => ⟨S8x49x1x1, .f32⟩
  | 43 => ⟨S8x49x1x1, .f32⟩
  | 44 => ⟨S8x49x224x224, .f32⟩
  | 45 => ⟨S8x49x224x224, .f32⟩
  | 46 => ⟨S8x49x224x224, .f32⟩
  | 47 => ⟨S8x49x1x1, .f32⟩
  | 48 => ⟨S8x49x224x224, .f32⟩
  | 49 => ⟨S8x49x224x224, .f32⟩
  | 50 => ⟨S_, .f32⟩
  | 51 => ⟨S8x224x224, .f32⟩
  | 52 => ⟨S8x224x224, .f32⟩
  | 53 => ⟨S8x49x2, .f32⟩
  | 54 => ⟨S8x49, .f32⟩
  | 55 => ⟨S8x49, .f32⟩
  | 56 => ⟨S1x1x224x224, .f32⟩
  | 57 => ⟨S8x49x1, .f32⟩
  | 58 => ⟨S8x49, .f32⟩
  | 59 => ⟨S8x49x1x1, .f32⟩
  | 60 => ⟨S8x49x224x224, .f32⟩
  | 61 => ⟨S8x49x224x224, .f32⟩
  | 62 => ⟨S8x49x224x224, .f32⟩
  | 63 => ⟨S1x1x224x224, .f32⟩
  | 64 => ⟨S8x49x1, .f32⟩
  | 65 => ⟨S8x49, .f32⟩
  | 66 => ⟨S8x49x1x1, .f32⟩
  | 67 => ⟨S8x49x224x224, .f32⟩
  | 68 => ⟨S8x49x224x224, .f32⟩
  | 69 => ⟨S8x49x224x224, .f32⟩
  | 70 => ⟨S8x49x224x224, .f32⟩
  | 71 => ⟨S8x49x224x224, .f32⟩
  | 72 => ⟨S8x49x224x224, .f32⟩
  | 73 => ⟨S8x49x224x224, .f32⟩
  | 74 => ⟨S8x49x1x1, .f32⟩
  | 75 => ⟨S_, .f32⟩
  | 76 => ⟨S8x49x1x1, .f32⟩
  | 77 => ⟨S8x49x1x1, .f32⟩
  | 78 => ⟨S8x49x224x224, .f32⟩
  | 79 => ⟨S8x49x224x224, .f32⟩
  | 80 => ⟨S8x49x224x224, .f32⟩
  | 81 => ⟨S8x49x1x1, .f32⟩
  | 82 => ⟨S8x49x224x224, .f32⟩
  | 83 => ⟨S8x49x224x224, .f32⟩
  | 84 => ⟨S_, .f32⟩
  | 85 => ⟨S8x224x224, .f32⟩
  | 86 => ⟨S8x224x224, .f32⟩
  | 87 => ⟨S8x49x2, .f32⟩
  | 88 => ⟨S8x49, .f32⟩
  | 89 => ⟨S8x49, .f32⟩
  | 90 => ⟨S1x1x224x224, .f32⟩
  | 91 => ⟨S8x49x1, .f32⟩
  | 92 => ⟨S8x49, .f32⟩
  | 93 => ⟨S8x49x1x1, .f32⟩
  | 94 => ⟨S8x49x224x224, .f32⟩
  | 95 => ⟨S8x49x224x224, .f32⟩
  | 96 => ⟨S8x49x224x224, .f32⟩
  | 97 => ⟨S1x1x224x224, .f32⟩
  | 98 => ⟨S8x49x1, .f32⟩
  | 99 => ⟨S8x49, .f32⟩
  | 100 => ⟨S8x49x1x1, .f32⟩
  | 101 => ⟨S8x49x224x224, .f32⟩
  | 102 => ⟨S8x49x224x224, .f32⟩
  | 103 => ⟨S8x49x224x224, .f32⟩
  | 104 => ⟨S8x49x224x224, .f32⟩
  | 105 => ⟨S8x49x224x224, .f32⟩
  | 106 => ⟨S8x49x224x224, .f32⟩
  | 107 => ⟨S8x49x224x224, .f32⟩
  | 108 => ⟨S8x49x1x1, .f32⟩
  | 109 => ⟨S_, .f32⟩
  | 110 => ⟨S8x49x1x1, .f32⟩
  | 111 => ⟨S8x49x1x1, .f32⟩
  | 112 => ⟨S8x49x224x224, .f32⟩
  | 113 => ⟨S8x49x224x224, .f32⟩
  | 114 => ⟨S8x49x224x224, .f32⟩
  | 115 => ⟨S8x49x1x1, .f32⟩
  | 116 => ⟨S8x49x224x224, .f32⟩
  | 117 => ⟨S8x49x224x224, .f32⟩
  | 118 => ⟨S_, .f32⟩
  | 119 => ⟨S8x224x224, .f32⟩
  | 120 => ⟨S8x224x224, .f32⟩
  | 121 => ⟨S8x49x2, .f32⟩
  | 122 => ⟨S8x49, .f32⟩
  | 123 => ⟨S8x49, .f32⟩
  | 124 => ⟨S1x1x224x224, .f32⟩
  | 125 => ⟨S8x49x1, .f32⟩
  | 126 => ⟨S8x49, .f32⟩
  | 127 => ⟨S8x49x1x1, .f32⟩
  | _ => ⟨S8x14x14x2, .f32⟩

abbrev hbmTy0_1 (i : Nat) : BufTy := match i % 128 with
  | 0 => ⟨S8x49x224x224, .f32⟩
  | 1 => ⟨S8x49x224x224, .f32⟩
  | 2 => ⟨S8x49x224x224, .f32⟩
  | 3 => ⟨S1x1x224x224, .f32⟩
  | 4 => ⟨S8x49x1, .f32⟩
  | 5 => ⟨S8x49, .f32⟩
  | 6 => ⟨S8x49x1x1, .f32⟩
  | 7 => ⟨S8x49x224x224, .f32⟩
  | 8 => ⟨S8x49x224x224, .f32⟩
  | 9 => ⟨S8x49x224x224, .f32⟩
  | 10 => ⟨S8x49x224x224, .f32⟩
  | 11 => ⟨S8x49x224x224, .f32⟩
  | 12 => ⟨S8x49x224x224, .f32⟩
  | 13 => ⟨S8x49x224x224, .f32⟩
  | 14 => ⟨S8x49x1x1, .f32⟩
  | 15 => ⟨S_, .f32⟩
  | 16 => ⟨S8x49x1x1, .f32⟩
  | 17 => ⟨S8x49x1x1, .f32⟩
  | 18 => ⟨S8x49x224x224, .f32⟩
  | 19 => ⟨S8x49x224x224, .f32⟩
  | 20 => ⟨S8x49x224x224, .f32⟩
  | 21 => ⟨S8x49x1x1, .f32⟩
  | 22 => ⟨S8x49x224x224, .f32⟩
  | 23 => ⟨S8x49x224x224, .f32⟩
  | 24 => ⟨S_, .f32⟩
  | 25 => ⟨S8x224x224, .f32⟩
  | 26 => ⟨S8x224x224, .f32⟩
  | _ => ⟨S8x14x14x2, .f32⟩

abbrev hbmTy (i : Nat) : BufTy := match i / 128 with
  | 0 => hbmTy0_0 i
  | 1 => hbmTy0_1 i
  | _ => ⟨S8x14x14x2, .f32⟩

abbrev bufTy : (tb : Table) → Fin (tcTables nBuf tb) → BufTy
  | .hbm, ⟨i, _⟩ => hbmTy i
  | _, _ => ⟨S8x14x14x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_4 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_5 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_6 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_7 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_cst_8 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_cst_9 : Ref sig .tc := ⟨.hbm, 152, rfl⟩
abbrev main_v137 : Ref sig .tc := ⟨.hbm, 153, rfl⟩
abbrev main_v138 : Ref sig .tc := ⟨.hbm, 154, rfl⟩

abbrev nD : Nat := 1
abbrev τ : Topo := Topo.v7x

variable {F : FTy → Type} [FloatOps F]
-- ==== Proof.Cell.lean ====
/- One cell's Gaussian at one pixel over the extended reals: the kernel's separable form and the reference's joint form, and why they agree when the cell's variance is not zero. -/
module

public import Idealize.ShloMosaic.PureOps.Ideal
public import Idealize.ShloMosaic.Lib.IdealHost
public import Mathlib.Data.EReal.Inv
public import Mathlib.Algebra.BigOperators.Fin

@[expose] public section

noncomputable section

namespace Cert.Splat

open Idealize.ShloMosaic

/-! ## Constants and elementary facts -/

/-- The single-precision word of one half is the real number one half. -/
theorem half_word : Ideal.ofBits .f32 0x3F000000#32 = ((1 / 2 : ℝ) : EReal) := by
  simp [Ideal.ofBits, Ideal.ieee, -EReal.coe_mul]; norm_num

/-- The single-precision word of two is the real number two. -/
theorem two_word : Ideal.ofBits .f32 0x40000000#32 = ((2 : ℝ) : EReal) := by
  simp [Ideal.ofBits, Ideal.ieee, -EReal.coe_mul]; norm_num

/-- An extended real that is a square is not negative. -/
theorem sq_nonneg' (a : EReal) : 0 ≤ a * a := by
  induction a with
  | bot => simp
  | top => simp
  | coe r => rw [← EReal.coe_mul]; exact_mod_cast mul_self_nonneg r

/-- The exponential of a real number is the real exponential. -/
theorem exp_coe (r : ℝ) : Ideal.exp (r : EReal) = ((Real.exp r : ℝ) : EReal) := rfl
/-- The exponential of minus infinity is zero. -/
theorem exp_bot : Ideal.exp ⊥ = 0 := rfl
/-- The exponential of plus infinity is plus infinity. -/
theorem exp_top : Ideal.exp ⊤ = ⊤ := rfl
/-- The exponential of zero is one. -/
theorem exp_zero : Ideal.exp 0 = 1 := by
  rw [show (0 : EReal) = ((0 : ℝ) : EReal) from rfl, exp_coe, Real.exp_zero]; rfl

/-- A nonnegative extended real is a nonnegative real or infinite. -/
theorem nonneg_cases {A : EReal} (h : 0 ≤ A) : A = ⊤ ∨ ∃ r : ℝ, 0 ≤ r ∧ A = (r : EReal) := by
  induction A with
  | bot => simp at h
  | top => exact .inl rfl
  | coe r => exact .inr ⟨r, by exact_mod_cast h, rfl⟩

/-! ## The product of two exponentials -/

/-- The exponential of `-A * s`, for `A` infinite: zero at a positive slope, infinite at a negative one. -/
theorem exp_top_mul {s : ℝ} : (0 < s → Ideal.exp (-(⊤ : EReal) * (s : EReal)) = 0) ∧ (s < 0 → Ideal.exp (-(⊤ : EReal) * (s : EReal)) = ⊤) := by
  constructor <;> intro h
  · rw [EReal.neg_top, EReal.bot_mul_coe_of_pos h, exp_bot]
  · rw [EReal.neg_top, EReal.bot_mul_coe_of_neg h, exp_top]

/-- The exponential of `-A * s` at a real `A` is a positive real. -/
theorem exp_coe_mul (r s : ℝ) : Ideal.exp (-(r : EReal) * (s : EReal)) = ((Real.exp (-r * s) : ℝ) : EReal) := by
  rw [← EReal.coe_neg, ← EReal.coe_mul, exp_coe]

/-- At a real slope that is not zero, an infinite first exponent decides the product. -/
theorem exp_mul_exp_top {B : EReal} (hB : 0 ≤ B) {s : ℝ} (hs : s ≠ 0) :
    Ideal.exp (-B * (s : EReal)) * Ideal.exp (-(⊤ : EReal) * (s : EReal)) = Ideal.exp (-(⊤ : EReal) * (s : EReal)) := by
  rcases lt_or_gt_of_ne hs with h | h
  · rw [exp_top_mul.2 h]
    rcases nonneg_cases hB with rfl | ⟨r, _, rfl⟩
    · rw [exp_top_mul.2 h]; rfl
    · rw [exp_coe_mul, EReal.coe_mul_top_of_pos (Real.exp_pos _)]
  · rw [exp_top_mul.1 h, mul_zero]

/-- At a real slope that is not zero, the product of the exponentials of two nonpositive multiples of it is the exponential of their sum's. -/
theorem exp_mul_exp {A B : EReal} (hA : 0 ≤ A) (hB : 0 ≤ B) {s : ℝ} (hs : s ≠ 0) :
    Ideal.exp (-B * (s : EReal)) * Ideal.exp (-A * (s : EReal)) = Ideal.exp (-(A + B) * (s : EReal)) := by
  rcases nonneg_cases hA with rfl | ⟨a, _, rfl⟩
  · rw [exp_mul_exp_top hB hs, EReal.top_add_of_ne_bot (fun h => by simp [h] at hB)]
  rcases nonneg_cases hB with rfl | ⟨b, hb, rfl⟩
  · rw [mul_comm, exp_mul_exp_top hA hs, EReal.add_top_of_ne_bot (EReal.coe_ne_bot a)]
  · rw [← EReal.coe_add, exp_coe_mul, exp_coe_mul, exp_coe_mul, ← EReal.coe_mul, ← Real.exp_add]
    congr 2; ring

/-- THE GAUSSIAN SEPARATES: for squared distances `A` and `B` and a variance that is not zero, the product of the two
    one-dimensional factors is the two-dimensional factor. -/
theorem gauss_separable {A B v : EReal} (hA : 0 ≤ A) (hB : 0 ≤ B) (hv : v ≠ 0) :
    Ideal.exp ((0 - B) * Ideal.div (Ideal.ofBits .f32 0x3F000000#32) v) * Ideal.exp ((0 - A) * Ideal.div (Ideal.ofBits .f32 0x3F000000#32) v)
      = Ideal.exp (Ideal.div (-(A + B)) (Ideal.ofBits .f32 0x40000000#32 * v)) := by
  rw [half_word, two_word, zero_sub, zero_sub]
  induction v with
  | bot =>
    rw [EReal.coe_mul_bot_of_pos (by norm_num)]
    simp [Ideal.div, exp_zero]
  | top =>
    rw [EReal.coe_mul_top_of_pos (by norm_num)]
    simp [Ideal.div, exp_zero]
  | coe r =>
    have hr : r ≠ 0 := by exact_mod_cast hv
    have h2 : (2 * r : ℝ) ≠ 0 := by positivity
    have e1 : Ideal.div ((1 / 2 : ℝ) : EReal) (r : EReal) = ((1 / 2 * r⁻¹ : ℝ) : EReal) := by
      rw [Ideal.div, if_neg hv, ← EReal.coe_inv, ← EReal.coe_mul]
    have e2 (x : EReal) : Ideal.div x ((2 : ℝ) * (r : EReal)) = x * ((1 / 2 * r⁻¹ : ℝ) : EReal) := by
      rw [← EReal.coe_mul, Ideal.div, if_neg (by exact_mod_cast h2), ← EReal.coe_inv]
      congr 2; rw [mul_inv]; ring
    rw [e1, e2]
    exact exp_mul_exp hA hB (by positivity)

/-! ## One cell's contribution -/

/-- One cell's contribution at column `X`, row `Y` as the kernel computes it: the row factor times the weighted column factor. -/
def kcell (X Y mx my v c : EReal) : EReal :=
  Ideal.exp ((0 - (Y - my) * (Y - my)) * Ideal.div (Ideal.ofBits .f32 0x3F000000#32) v)
    * (c * Ideal.exp ((0 - (X - mx) * (X - mx)) * Ideal.div (Ideal.ofBits .f32 0x3F000000#32) v))

/-- One cell's contribution at column `X`, row `Y` as the reference computes it: the joint Gaussian times the weight. -/
def rcell (X Y mx my v c : EReal) : EReal :=
  Ideal.exp (Ideal.div (-((X - mx) * (X - mx) + (Y - my) * (Y - my))) (Ideal.ofBits .f32 0x40000000#32 * v)) * c

/-- A confidence above the threshold word is kept, any other counts as zero. -/
def gate (c : EReal) : EReal := if Ideal.ofBits .f32 0x3DCCCCCD#32 < c then c else 0

/-- The two contributions are equal when the variance is not zero. -/
theorem kcell_eq_rcell (X Y mx my : EReal) {v : EReal} (c : EReal) (hv : v ≠ 0) : kcell X Y mx my v c = rcell X Y mx my v c := by
  rw [kcell, rcell, ← gauss_separable (sq_nonneg' _) (sq_nonneg' _) hv]
  ac_rfl

/-- A cell of weight zero contributes nothing. -/
theorem kcell_zero (X Y mx my v : EReal) : kcell X Y mx my v 0 = 0 := by
  rw [kcell, zero_mul, mul_zero]

/-- Zero stays zero under the gate. -/
theorem gate_zero : gate 0 = 0 := by rw [gate, ite_self]

/-! ## The two orders of summation -/

/-- A sum over 224 padded cells, zero from cell 196 on, is the sum over the 196 cells. -/
theorem sum_padded (f : Fin 196 → EReal) : ∑ k : Fin 224, (if h : k.val < 196 then f ⟨k.val, h⟩ else 0) = ∑ k, f k := by
  rw [Fin.sum_univ_add (a := 196) (b := 28)]
  simp

/-- A sum over 196 cells, taken as four runs of 49 added one after the other to zero. -/
theorem sum_chunks (f : Fin 196 → EReal) :
    0 + ∑ j : Fin 49, f ⟨j.val, by omega⟩ + ∑ j : Fin 49, f ⟨49 + j.val, by omega⟩ + ∑ j : Fin 49, f ⟨98 + j.val, by omega⟩
      + ∑ j : Fin 49, f ⟨147 + j.val, by omega⟩ = ∑ k, f k := by
  rw [zero_add]
  have e := Fin.sum_univ_add (a := 147) (b := 49) f
  have e' := Fin.sum_univ_add (a := 98) (b := 49) fun k => f (Fin.castAdd 49 k)
  have e'' := Fin.sum_univ_add (a := 49) (b := 49) fun k => f (Fin.castAdd 49 (Fin.castAdd 49 k))
  rw [e''] at e'
  rw [e'] at e
  exact e.symm

end Cert.Splat

end
-- ==== Proof.KernelValue.lean ====
/- What the kernel's result holds: at every pixel the sum, over the cells, of the kernel's form of a cell's contribution. -/
module

public import proofs.«01_k».proof.Proof.Gen.KernelIdeal.Value
public import proofs.«01_k».proof.Proof.Cell
public import Idealize.ShloMosaic.Lib.Claim
public import Idealize.ShloMosaic.Lib.Pipeline.ValueKit
public import Idealize.ShloMosaic.Lib.Pointwise

@[expose] public section

set_option maxRecDepth 16384

noncomputable section

namespace Cert.KernelIdeal.Splat

open Cert.KernelIdeal Cert.KernelIdeal.Gen Cert.Splat Idealize.ShloMosaic Idealize.ShloMosaic.TcCoe Idealize.SL.Sem

variable (m : (ℓ : Loc nD τ sig) → Buf (Elt Ideal) ℓ)

/-! ## The arrays the kernel is given -/

/-- Cells 196 to 223 added to an array of 196 cells per image, each holding zero. -/
def padZero (A : FVec Ideal S8x196 .f32) : FVec Ideal S8x224 .f32 :=
  pad S8x224 ![0, 0] ![0, 28] ![0, 0] A (sitofp .f32 (constantI S_ 32 0#32)) pads_S8x196_S8x224_000_0280 h_S_

/-- Cells 196 to 223 added to an array of 196 cells per image, each holding one. -/
def padOne (A : FVec Ideal S8x196 .f32) : FVec Ideal S8x224 .f32 :=
  pad S8x224 ![0, 0] ![0, 28] ![0, 0] A (constant S_ .f32 0x3F800000#32) pads_S8x196_S8x224_000_0280 h_S_

/-- The cells of each image in one line. -/
def flat (A : FVec Ideal S8x14x14 .f32) : FVec Ideal S8x196 .f32 := shapeCast S8x196 A shapeCasts_S8x14x14_S8x196

/-- The first coordinate (the column) of every cell's mean, the cells in one line. -/
def meanX (A : FVec Ideal S8x14x14x2 .f32) : FVec Ideal S8x196 .f32 :=
  shapeCast S8x196 (extractStridedSlice S8x196x1 ![0, 0, 0] (shapeCast S8x196x2 A shapeCasts_S8x14x14x2_S8x196x2) slices_S8x196x2_S8x196x1_0_0_0)
    shapeCasts_S8x196x1_S8x196

/-- The second coordinate (the row) of every cell's mean, the cells in one line. -/
def meanY (A : FVec Ideal S8x14x14x2 .f32) : FVec Ideal S8x196 .f32 :=
  shapeCast S8x196 (extractStridedSlice S8x196x1 ![0, 0, 1] (shapeCast S8x196x2 A shapeCasts_S8x14x14x2_S8x196x2) slices_S8x196x2_S8x196x1_0_0_1)
    shapeCasts_S8x196x1_S8x196

/-- The kernel's five operands when it starts, as the host's operations leave them: every cell's row and variance laid along
    the lanes, then every cell's column, variance and confidence laid down the rows. -/
theorem operands (c : Dev nD) :
    (V m c main_v11 : FVec Ideal S8x1x224 .f32) = broadcastInDim S8x1x224 ![0, 2] bcast_S8x224_S8x1x224_0_2 (padZero (meanY (m ((c.tc : Thread nD τ).loc main_arg0))))
    ∧ (V m c main_v12 : FVec Ideal S8x1x224 .f32) = broadcastInDim S8x1x224 ![0, 2] bcast_S8x224_S8x1x224_0_2 (padOne (flat (m ((c.tc : Thread nD τ).loc main_arg1))))
    ∧ (V m c main_v13 : FVec Ideal S8x224x1 .f32) = broadcastInDim S8x224x1 ![0, 1] bcast_S8x224_S8x224x1_0_1 (padZero (meanX (m ((c.tc : Thread nD τ).loc main_arg0))))
    ∧ (V m c main_v14 : FVec Ideal S8x224x1 .f32) = broadcastInDim S8x224x1 ![0, 1] bcast_S8x224_S8x224x1_0_1 (padOne (flat (m ((c.tc : Thread nD τ).loc main_arg1))))
    ∧ (V m c main_v15 : FVec Ideal S8x224x1 .f32) = broadcastInDim S8x224x1 ![0, 1] bcast_S8x224_S8x224x1_0_1 (padZero (flat (m ((c.tc : Thread nD τ).loc main_arg2)))) := by
  simp only [V, hostOps0, hostOps0_1, hostOps0_2, hostOps0_3, hostOps0_4, hostOps0_5, hostOps0_6, hostOps0_7, hostOps0_8, List.flatten_cons, List.flatten_nil,
    List.append_nil, List.cons_append, List.nil_append]
  refine ⟨?_, ?_, ?_, ?_, ?_⟩ <;> (entry_read; rfl)

/-! ## Reading them at a cell -/

/-- Padding with zero, read at a cell. -/
theorem padZero_apply (A : FVec Ideal S8x196 .f32) (b : Fin 8) (k : Fin 224) :
    padZero A (ix2 b k) = if h : k.val < 196 then A (ix2 b ⟨k.val, h⟩) else (0 : EReal) := by
  pointwise [padZero]
  simp [FloatOps.sitofp]

/-- Padding with one, read at a cell. -/
theorem padOne_apply (A : FVec Ideal S8x196 .f32) (b : Fin 8) (k : Fin 224) :
    padOne A (ix2 b k) = if h : k.val < 196 then A (ix2 b ⟨k.val, h⟩) else (1 : EReal) := by
  pointwise [padOne]

/-- An argument's cells in one line, read at a cell. -/
theorem flat_apply (A : FVec Ideal S8x14x14 .f32) (b : Fin 8) (k : Fin 196) :
    flat A (ix2 b k) = A (ix3 b ⟨k.val / 14, by omega⟩ ⟨k.val % 14, by omega⟩) := by
  pointwise [flat]

/-- The columns in one line, read at a cell. -/
theorem meanX_apply (A : FVec Ideal S8x14x14x2 .f32) (b : Fin 8) (k : Fin 196) :
    meanX A (ix2 b k) = A (ix4 b ⟨k.val / 14, by omega⟩ ⟨k.val % 14, by omega⟩ 0) := by
  pointwise [meanX]

/-- The rows in one line, read at a cell. -/
theorem meanY_apply (A : FVec Ideal S8x14x14x2 .f32) (b : Fin 8) (k : Fin 196) :
    meanY A (ix2 b k) = A (ix4 b ⟨k.val / 14, by omega⟩ ⟨k.val % 14, by omega⟩ 1) := by
  pointwise [meanY]

/-! ## One image's block -/

/-- What one grid point stores, read at a pixel: the sum over the 224 padded cells of the kernel's form of a cell. -/
theorem pay_apply (x0 x1 : Vec Ideal S1x1x224 .f32) (x2 x3 x4 : Vec Ideal S1x224x1 .f32) (u : Fin 1) (y x : Fin 224)
    (h : ∀ k : Fin 224, x1 (ix3 0 0 k) = x3 (ix3 0 k 0)) :
    k0_pay1 (F := Ideal) (k0_pay2 x4) (k0_pay3 x0 x1) (k0_pay4 x2 x3) (ix3 u y x)
      = ∑ k : Fin 224, kcell (FloatOps.sitofp (F := Ideal) .f32 (BitVec.ofNat 32 x.val)) (FloatOps.sitofp (F := Ideal) .f32 (BitVec.ofNat 32 y.val))
          (x2 (ix3 0 k 0)) (x0 (ix3 0 0 k)) (x3 (ix3 0 k 0)) (gate (x4 (ix3 0 k 0))) := by
  pointwise [k0_pay1, k0_pay2, k0_pay3, k0_pay4]
  simp only [kcell, gate, h]

/-- Every window's block at grid point `t` is image `t` of its array. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- The rows' block, read at a cell. -/
theorem blk0 (c : Dev nD) (t : Fin cfg0.N) (b : Fin 8) (hb : b.val = t.val) (k : Fin 224) :
    (iblk m c 0 t : FVec Ideal S1x1x224 .f32) (ix3 0 0 k) = padZero (meanY (m ((c.tc : Thread nD τ).loc main_arg0))) (ix2 b k) := by
  have e : (iblk m c 0 t : FVec Ideal S1x1x224 .f32) (ix3 0 0 k) = (V m c main_v11 : FVec Ideal S8x1x224 .f32) (ix3 b 0 k) := by blk_ext [iblk, idx t]
  rw [e, (operands m c).1]
  pointwise

/-- The variances' block along the lanes, read at a cell. -/
theorem blk1 (c : Dev nD) (t : Fin cfg0.N) (b : Fin 8) (hb : b.val = t.val) (k : Fin 224) :
    (iblk m c 1 t : FVec Ideal S1x1x224 .f32) (ix3 0 0 k) = padOne (flat (m ((c.tc : Thread nD τ).loc main_arg1))) (ix2 b k) := by
  have e : (iblk m c 1 t : FVec Ideal S1x1x224 .f32) (ix3 0 0 k) = (V m c main_v12 : FVec Ideal S8x1x224 .f32) (ix3 b 0 k) := by blk_ext [iblk, idx t]
  rw [e, (operands m c).2.1]
  pointwise

/-- The columns' block, read at a cell. -/
theorem blk2 (c : Dev nD) (t : Fin cfg0.N) (b : Fin 8) (hb : b.val = t.val) (k : Fin 224) :
    (iblk m c 2 t : FVec Ideal S1x224x1 .f32) (ix3 0 k 0) = padZero (meanX (m ((c.tc : Thread nD τ).loc main_arg0))) (ix2 b k) := by
  have e : (iblk m c 2 t : FVec Ideal S1x224x1 .f32) (ix3 0 k 0) = (V m c main_v13 : FVec Ideal S8x224x1 .f32) (ix3 b k 0) := by blk_ext [iblk, idx t]
  rw [e, (operands m c).2.2.1]
  pointwise

/-- The variances' block down the rows, read at a cell. -/
theorem blk3 (c : Dev nD) (t : Fin cfg0.N) (b : Fin 8) (hb : b.val = t.val) (k : Fin 224) :
    (iblk m c 3 t : FVec Ideal S1x224x1 .f32) (ix3 0 k 0) = padOne (flat (m ((c.tc : Thread nD τ).loc main_arg1))) (ix2 b k) := by
  have e : (iblk m c 3 t : FVec Ideal S1x224x1 .f32) (ix3 0 k 0) = (V m c main_v14 : FVec Ideal S8x224x1 .f32) (ix3 b k 0) := by blk_ext [iblk, idx t]
  rw [e, (operands m c).2.2.2.1]
  pointwise

/-- The confidences' block, read at a cell. -/
theorem blk4 (c : Dev nD) (t : Fin cfg0.N) (b : Fin 8) (hb : b.val = t.val) (k : Fin 224) :
    (iblk m c 4 t : FVec Ideal S1x224x1 .f32) (ix3 0 k 0) = padZero (flat (m ((c.tc : Thread nD τ).loc main_arg2))) (ix2 b k) := by
  have e : (iblk m c 4 t : FVec Ideal S1x224x1 .f32) (ix3 0 k 0) = (V m c main_v15 : FVec Ideal S8x224x1 .f32) (ix3 b k 0) := by blk_ext [iblk, idx t]
  rw [e, (operands m c).2.2.2.2]
  pointwise

/-! ## The whole result -/

/-- The kernel's result as a function of its three arguments: at every pixel of every image, the sum over the image's 196 cells. -/
def image (A0 : FVec Ideal S8x14x14x2 .f32) (A1 A2 : FVec Ideal S8x14x14 .f32) : FVec Ideal S8x224x224 .f32 := fun i =>
  ∑ k : Fin 196, kcell (FloatOps.sitofp (F := Ideal) .f32 (BitVec.ofNat 32 (i 2).val)) (FloatOps.sitofp (F := Ideal) .f32 (BitVec.ofNat 32 (i 1).val))
    (meanX A0 (ix2 (i 0) k)) (meanY A0 (ix2 (i 0) k)) (flat A1 (ix2 (i 0) k)) (gate (flat A2 (ix2 (i 0) k)))

/-- The sum over the padded cells is the sum over the 196 cells: a padding cell has confidence zero. -/
theorem image_apply (A0 : FVec Ideal S8x14x14x2 .f32) (A1 A2 : FVec Ideal S8x14x14 .f32) (b : Fin 8) (X Y : EReal) :
    ∑ k : Fin 224, kcell X Y (padZero (meanX A0) (ix2 b k)) (padZero (meanY A0) (ix2 b k)) (padOne (flat A1) (ix2 b k)) (gate (padZero (flat A2) (ix2 b k)))
      = ∑ k : Fin 196, kcell X Y (meanX A0 (ix2 b k)) (meanY A0 (ix2 b k)) (flat A1 (ix2 b k)) (gate (flat A2 (ix2 b k))) := by
  rw [← sum_padded]
  refine Finset.sum_congr rfl fun k _ => ?_
  simp only [padZero_apply, padOne_apply]
  by_cases h : k.val < 196
  · simp only [dif_pos h]
  · simp only [dif_neg h, gate_zero, kcell_zero]

/-- The kernel's result array after its eight grid points. -/
theorem final (c : Dev nD) : (dats m 0 c).arrAt 5 (cfgs 0).N
    = image (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]; frame_out
  idx_vars y
  have e : image (m ((c.tc : Thread nD τ).loc main_arg0)) (m ((c.tc : Thread nD τ).loc main_arg1)) (m ((c.tc : Thread nD τ).loc main_arg2))
      (((View.whole main_v16).slice (win0_5.rect t)).emb (ix3 y0 y1 y2))
    = image (m ((c.tc : Thread nD τ).loc main_arg0)) (m ((c.tc : Thread nD τ).loc main_arg1)) (m ((c.tc : Thread nD τ).loc main_arg2))
      (ix3 (⟨t.val, t.isLt⟩ : Fin 8) y1 y2) := by blk_ext [idx t]
  rw [e, pay_apply _ _ _ _ _ _ _ _ fun k => (blk1 m c t ⟨t.val, t.isLt⟩ rfl k).trans (blk3 m c t ⟨t.val, t.isLt⟩ rfl k).symm]
  simp only [blk0 m c t ⟨t.val, t.isLt⟩ rfl, blk2 m c t ⟨t.val, t.isLt⟩ rfl, blk3 m c t ⟨t.val, t.isLt⟩ rfl, blk4 m c t ⟨t.val, t.isLt⟩ rfl]
  exact image_apply _ _ _ _ _ _

end Cert.KernelIdeal.Splat

end
-- ==== Proof.ReferenceValue.lean ====
/- What the reference's result holds: at every pixel the sum, over the cells, of the reference's form of a cell's contribution. -/
module

public import proofs.«01_k».proof.Proof.Gen.ReferenceIdeal.Run
public import proofs.«01_k».proof.Proof.Cell
public import Idealize.ShloMosaic.Lib.Pointwise

@[expose] public section

set_option maxRecDepth 16384

noncomputable section

namespace Cert.ReferenceIdeal.Splat

open Cert.ReferenceIdeal Cert.ReferenceIdeal.Gen Cert.Splat Idealize.ShloMosaic Idealize.ShloMosaic.TcCoe Idealize.SL.Sem

variable (m : (ℓ : Loc nD τ sig) → Buf (Elt Ideal) ℓ)

/-! ## The reference's text, cut where it repeats -/

/-- The distances along the columns from every cell of a run of 49 to every pixel. -/
def chunkX (mm : FVec Ideal S8x49x2 .f32) : FVec Ideal S8x49x224x224 .f32 :=
  subf
    (broadcastInDim S8x49x224x224 ![0, 1, 2, 3] bcast_S1x1x224x224_S8x49x224x224_0_1_2_3
      (broadcastInDim S1x1x224x224 ![2, 3] bcast_S224x224_S1x1x224x224_2_3
        (broadcastInDim S224x224 ![1] bcast_S224_S224x224_1 (sitofp .f32 (iotaInDim S224 32 0)))))
    (broadcastInDim S8x49x224x224 ![0, 1, 2, 3] bcast_S8x49x1x1_S8x49x224x224_0_1_2_3
      (broadcastInDim S8x49x1x1 ![0, 1] bcast_S8x49_S8x49x1x1_0_1
        (shapeCast S8x49 (extractStridedSlice S8x49x1 ![0, 0, 0] mm slices_S8x49x2_S8x49x1_0_0_0) shapeCasts_S8x49x1_S8x49)))

/-- The distances along the rows from every cell of a run of 49 to every pixel. -/
def chunkY (mm : FVec Ideal S8x49x2 .f32) : FVec Ideal S8x49x224x224 .f32 :=
  subf
    (broadcastInDim S8x49x224x224 ![0, 1, 2, 3] bcast_S1x1x224x224_S8x49x224x224_0_1_2_3
      (broadcastInDim S1x1x224x224 ![2, 3] bcast_S224x224_S1x1x224x224_2_3
        (broadcastInDim S224x224 ![0] bcast_S224_S224x224_0 (sitofp .f32 (iotaInDim S224 32 0)))))
    (broadcastInDim S8x49x224x224 ![0, 1, 2, 3] bcast_S8x49x1x1_S8x49x224x224_0_1_2_3
      (broadcastInDim S8x49x1x1 ![0, 1] bcast_S8x49_S8x49x1x1_0_1
        (shapeCast S8x49 (extractStridedSlice S8x49x1 ![0, 0, 1] mm slices_S8x49x2_S8x49x1_0_0_1) shapeCasts_S8x49x1_S8x49)))

/-- What a run of 49 cells contributes to the result. -/
def chunk (mm : FVec Ideal S8x49x2 .f32) (vv cc : FVec Ideal S8x49 .f32) : FVec Ideal S8x224x224 .f32 :=
  Host.reduceAdd
    (mulf
      (Host.exp (Host.divf (Host.negf (addf (mulf (chunkX mm) (chunkX mm)) (mulf (chunkY mm) (chunkY mm))))
        (broadcastInDim S8x49x224x224 ![0, 1, 2, 3] bcast_S8x49x1x1_S8x49x224x224_0_1_2_3
          (mulf (broadcastInDim S8x49x1x1 ![] bcast_S_S8x49x1x1 (constant S_ .f32 0x40000000#32))
            (broadcastInDim S8x49x1x1 ![0, 1] bcast_S8x49_S8x49x1x1_0_1 vv)))))
      (broadcastInDim S8x49x224x224 ![0, 1, 2, 3] bcast_S8x49x1x1_S8x49x224x224_0_1_2_3
        (broadcastInDim S8x49x1x1 ![0, 1] bcast_S8x49_S8x49x1x1_0_1 cc)))
    (constant S_ .f32 0x00000000#32) reducesTo_S8x49x224x224_S8x224x224_d1 h_S_

/-- The means, the cells of each image in one line. -/
def means (A : FVec Ideal S8x14x14x2 .f32) : FVec Ideal S8x196x2 .f32 := shapeCast S8x196x2 A shapeCasts_S8x14x14x2_S8x196x2

/-- The cells of each image in one line. -/
def flat (A : FVec Ideal S8x14x14 .f32) : FVec Ideal S8x196 .f32 := shapeCast S8x196 A shapeCasts_S8x14x14_S8x196

/-- The confidences that count, the cells of each image in one line. -/
def confs (A : FVec Ideal S8x14x14 .f32) : FVec Ideal S8x196 .f32 :=
  select (cmpf .ogt (flat A) (broadcastInDim S8x196 ![] bcast_S_S8x196 (constant S_ .f32 0x3DCCCCCD#32))) (flat A)
    (broadcastInDim S8x196 ![] bcast_S_S8x196 (constant S_ .f32 0x00000000#32))

/-- The four runs of 49 cells, added one after the other to zero. -/
def parts (M : FVec Ideal S8x196x2 .f32) (v c : FVec Ideal S8x196 .f32) : FVec Ideal S8x224x224 .f32 :=
  addf (addf (addf (addf (broadcastInDim S8x224x224 ![] bcast_S_S8x224x224 (constant S_ .f32 0x00000000#32))
    (chunk (extractStridedSlice S8x49x2 ![0, 0, 0] M slices_S8x196x2_S8x49x2_0_0_0)
      (extractStridedSlice S8x49 ![0, 0] v slices_S8x196_S8x49_0_0) (extractStridedSlice S8x49 ![0, 0] c slices_S8x196_S8x49_0_0)))
    (chunk (extractStridedSlice S8x49x2 ![0, 49, 0] M slices_S8x196x2_S8x49x2_0_49_0)
      (extractStridedSlice S8x49 ![0, 49] v slices_S8x196_S8x49_0_49) (extractStridedSlice S8x49 ![0, 49] c slices_S8x196_S8x49_0_49)))
    (chunk (extractStridedSlice S8x49x2 ![0, 98, 0] M slices_S8x196x2_S8x49x2_0_98_0)
      (extractStridedSlice S8x49 ![0, 98] v slices_S8x196_S8x49_0_98) (extractStridedSlice S8x49 ![0, 98] c slices_S8x196_S8x49_0_98)))
    (chunk (extractStridedSlice S8x49x2 ![0, 147, 0] M slices_S8x196x2_S8x49x2_0_147_0)
      (extractStridedSlice S8x49 ![0, 147] v slices_S8x196_S8x49_0_147) (extractStridedSlice S8x49 ![0, 147] c slices_S8x196_S8x49_0_147))

/-- The reference's result is those four runs, of its arguments. -/
theorem result_eq (c : Dev nD) : Value.res_out0 m c
    = parts (means (m ((c.tc : Thread nD τ).loc main_arg0))) (flat (m ((c.tc : Thread nD τ).loc main_arg1))) (confs (m ((c.tc : Thread nD τ).loc main_arg2))) := rfl

/-! ## Reading it at a pixel -/

/-- A run of 49 cells, read at a pixel. -/
theorem chunk_apply (mm : FVec Ideal S8x49x2 .f32) (vv cc : FVec Ideal S8x49 .f32) (b : Fin 8) (y x : Fin 224) :
    chunk mm vv cc (ix3 b y x) = ∑ j : Fin 49, rcell (FloatOps.sitofp (F := Ideal) .f32 (BitVec.ofNat 32 x.val)) (FloatOps.sitofp (F := Ideal) .f32 (BitVec.ofNat 32 y.val))
      (mm (ix3 b j 0)) (mm (ix3 b j 1)) (vv (ix2 b j)) (cc (ix2 b j)) := by
  pointwise [chunk, chunkX, chunkY, rcell]

/-- The four runs, read at a pixel: the sum over the 196 cells. -/
theorem parts_apply (M : FVec Ideal S8x196x2 .f32) (v c : FVec Ideal S8x196 .f32) (b : Fin 8) (y x : Fin 224) :
    parts M v c (ix3 b y x) = ∑ k : Fin 196, rcell (FloatOps.sitofp (F := Ideal) .f32 (BitVec.ofNat 32 x.val)) (FloatOps.sitofp (F := Ideal) .f32 (BitVec.ofNat 32 y.val))
      (M (ix3 b k 0)) (M (ix3 b k 1)) (v (ix2 b k)) (c (ix2 b k)) := by
  rw [← sum_chunks]
  show FloatOps.addf (F := Ideal) _ _ = _
  pointwise [parts, chunk_apply]

/-- The means in one line, read at a cell. -/
theorem means_apply (A : FVec Ideal S8x14x14x2 .f32) (b : Fin 8) (k : Fin 196) (d : Fin 2) :
    means A (ix3 b k d) = A (ix4 b ⟨k.val / 14, by omega⟩ ⟨k.val % 14, by omega⟩ d) := by
  pointwise [means]

/-- An argument's cells in one line, read at a cell. -/
theorem flat_apply (A : FVec Ideal S8x14x14 .f32) (b : Fin 8) (k : Fin 196) :
    flat A (ix2 b k) = A (ix3 b ⟨k.val / 14, by omega⟩ ⟨k.val % 14, by omega⟩) := by
  pointwise [flat]

/-- The confidences that count, read at a cell. -/
theorem confs_apply (A : FVec Ideal S8x14x14 .f32) (b : Fin 8) (k : Fin 196) : confs A (ix2 b k) = gate (flat A (ix2 b k)) := by
  pointwise [confs, gate]

end Cert.ReferenceIdeal.Splat

end
-- ==== Proof.Variance.lean ====
/- What the precondition says of an element: no cell has variance zero. -/
module

public import proofs.«01_k».proof.Pre_variance_nonzero
public import Idealize.ShloMosaic.PureOps.Ideal
public import Idealize.ShloMosaic.Lib.ReduceAll
public import Idealize.ShloMosaic.Lib.Pointwise

@[expose] public section

noncomputable section

namespace Cert.Pre_variance_nonzero.Splat

open Cert.Pre_variance_nonzero Idealize.ShloMosaic

/-- The shape relations the precondition's text states. -/
theorem facts : Cert.Pre_variance_nonzero.Facts where
  bcast_S_S8x14x14 := by decide
  reducesTo_S8x14x14_S_d0_1_2 := by decide
  h_S_ := by decide

attribute [local instance] facts

/-- Where the precondition is one, no cell of any image has variance zero. -/
theorem variance_ne_zero (A0 : FVec Ideal S8x14x14x2 .f32) (A1 A2 : FVec Ideal S8x14x14 .f32) (h : fn A0 A1 A2 = fun _ => 1#1)
    (b : Fin 8) (r s : Fin 14) : A1 (ix3 b r s) ≠ (0 : EReal) := by
  haveI : Subsingleton S_.Idx := ⟨fun a b => funext fun d => d.elim0⟩
  have e := Host.reduce_andi_all _ _ _ _ ix0 (congrFun h ix0) (ix3 b r s)
  intro h0
  revert e
  pointwise
  simp [h0]

end Cert.Pre_variance_nonzero.Splat

end
-- ==== Proof.Agree.lean ====
/- The kernel's result is the reference's, as functions of the three arguments, when no variance is zero. -/
module

public import proofs.«01_k».proof.Proof.KernelValue
public import proofs.«01_k».proof.Proof.ReferenceValue
public import proofs.«01_k».proof.Proof.Variance

@[expose] public section

noncomputable section

namespace Cert.Splat

open Idealize.ShloMosaic

/-- THE TWO RESULTS AGREE: at every pixel of every image, the kernel's sum over the cells is the four runs of the reference. -/
theorem image_eq_parts (A0 : FVec Ideal Cert.KernelIdeal.S8x14x14x2 .f32) (A1 A2 : FVec Ideal Cert.KernelIdeal.S8x14x14 .f32)
    (hv : ∀ (b : Fin 8) (r s : Fin 14), A1 (ix3 b r s) ≠ (0 : EReal)) :
    Cert.KernelIdeal.Splat.image A0 A1 A2
      = Cert.ReferenceIdeal.Splat.parts (Cert.ReferenceIdeal.Splat.means A0) (Cert.ReferenceIdeal.Splat.flat A1) (Cert.ReferenceIdeal.Splat.confs A2) := by
  funext i
  idx_vars i
  rw [Cert.ReferenceIdeal.Splat.parts_apply]
  refine Finset.sum_congr rfl fun k _ => ?_
  show kcell _ _ (Cert.KernelIdeal.Splat.meanX A0 (ix2 i0 k)) (Cert.KernelIdeal.Splat.meanY A0 (ix2 i0 k)) (Cert.KernelIdeal.Splat.flat A1 (ix2 i0 k))
    (gate (Cert.KernelIdeal.Splat.flat A2 (ix2 i0 k))) = _
  rw [Cert.KernelIdeal.Splat.meanX_apply, Cert.KernelIdeal.Splat.meanY_apply, Cert.KernelIdeal.Splat.flat_apply, Cert.KernelIdeal.Splat.flat_apply,
    Cert.ReferenceIdeal.Splat.means_apply, Cert.ReferenceIdeal.Splat.means_apply, Cert.ReferenceIdeal.Splat.confs_apply,
    Cert.ReferenceIdeal.Splat.flat_apply, Cert.ReferenceIdeal.Splat.flat_apply]
  exact kcell_eq_rcell _ _ _ _ _ (hv _ _ _)

end Cert.Splat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged, and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := by
  exact (θ_run Cert.ReferenceIdeal.defs _ _).mono (fun r h => ⟨fun c => (h c).2, sem_eq_zero_of_no_sems rfl r.2⟩) (Cert.ReferenceIdeal.Value.run m g)

/-- From agreeing arguments whose variances are not zero, the kernel and the reference both run and end with the same result, argument arrays unchanged. -/
theorem algebraic : Cert.algebraic_KernelIdeal_ReferenceIdeal_pre_variance_nonzero
    (hKernelIdeal := Cert.KernelIdeal.Gen.facts) (hReferenceIdeal := Cert.ReferenceIdeal.Gen.facts)
    (hPre_variance_nonzero := Cert.Pre_variance_nonzero.Splat.facts) := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
  · run_from Cert.ReferenceIdeal.Value.run m' g'
    refine (Cert.ReferenceIdeal.Splat.result_eq m' c).trans (Eq.trans ?_ (Cert.KernelIdeal.Splat.final m c).symm)
    rw [(hagree c).1, (hagree c).2.1, (hagree c).2.2]
    exact (Cert.Splat.image_eq_parts _ _ _ fun b r s => Cert.Pre_variance_nonzero.Splat.variance_ne_zero _ _ _ (hpre c) b r s).symm

/-- Everything the certificate claims. -/
theorem claim : Cert.Claim :=
  ⟨Cert.Kernel.Gen.facts, Cert.KernelIdeal.Gen.facts, Cert.ReferenceIdeal.Gen.facts, Cert.Pre_variance_nonzero.Splat.facts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
